-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_edges [hPre_sorted_edges : Cert.Pre_sorted_edges.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_edges [hPre_sorted_edges : Cert.Pre_sorted_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_edges [hKernelIdeal : Cert.KernelIdeal.Facts] [hPre_sorted_edges : Cert.Pre_sorted_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_edges [hReferenceIdeal : Cert.ReferenceIdeal.Facts] [hPre_sorted_edges : Cert.Pre_sorted_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_edges [hKernelIdeal : Cert.KernelIdeal.Facts] [hReferenceIdeal : Cert.ReferenceIdeal.Facts] [hPre_sorted_edges : Cert.Pre_sorted_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_edges : Cert.Pre_sorted_edges.Facts),
    quiescent_Kernel (hKernel := hKernel)
    ∧ quiescent_KernelIdeal (hKernelIdeal := hKernelIdeal)
    ∧ quiescent_KernelIdeal_pre_sorted_edges (hKernelIdeal := hKernelIdeal) (hPre_sorted_edges := hPre_sorted_edges)
    ∧ quiescent_ReferenceIdeal (hReferenceIdeal := hReferenceIdeal)
    ∧ quiescent_ReferenceIdeal_pre_sorted_edges (hReferenceIdeal := hReferenceIdeal) (hPre_sorted_edges := hPre_sorted_edges)
    ∧ preserves_Kernel_KernelIdeal
    ∧ algebraic_KernelIdeal_ReferenceIdeal_pre_sorted_edges (hKernelIdeal := hKernelIdeal) (hReferenceIdeal := hReferenceIdeal) (hPre_sorted_edges := hPre_sorted_edges)
-- ==== Pre_sorted_edges.lean ====
abbrev S64x512x512 : Shape := ⟨3, ![64, 512, 512]⟩
abbrev S7 : Shape := ⟨1, ![7]⟩
abbrev S8 : Shape := ⟨1, ![8]⟩
abbrev S_ : Shape := ⟨0, ![]⟩

class Facts : Prop where
  slices_S8_S7_0 : S8.Slices ![0] S7
  slices_S8_S7_1 : S8.Slices ![1] S7
  reducesTo_S7_S_d0 : S7.ReducesTo [0] S_
  h_S_ : 0 < S_.numel

variable [Facts]

def fn {F : FTy → Type} [FloatOps F] (main_arg0 : FVec F S64x512x512 .f32) (main_arg1 : FVec F S64x512x512 .f32) (main_arg2 : FVec F S7 .f32) (main_arg3 : FVec F S8 .f32) : IVec S_ 1 :=
  let main_v0 : FVec F S7 .f32 := (extractStridedSlice S7 ![0] · slices_S8_S7_0) main_arg3
  let main_v1 : FVec F S7 .f32 := (extractStridedSlice S7 ![1] · slices_S8_S7_1) main_arg3
  let main_v2 : IVec S7 1 := cmpf .ole main_v0 main_v1
  let main_c : IVec S_ 1 := constantI S_ 1 1#1
  let main_v3 : IVec S_ 1 := (fun x v => Host.reduce IntOp.andi x v reducesTo_S7_S_d0 h_S_) main_v2 main_c
  main_v3
-- ==== Kernel.lean ====
abbrev S64x512x512 : Shape := ⟨3, ![64, 512, 512]⟩
abbrev S7 : Shape := ⟨1, ![7]⟩
abbrev S8 : Shape := ⟨1, ![8]⟩
abbrev S64x2x256x512 : Shape := ⟨4, ![64, 2, 256, 512]⟩
abbrev S2x1x2 : Shape := ⟨3, ![2, 1, 2]⟩
abbrev S4x1x256x512 : Shape := ⟨4, ![4, 1, 256, 512]⟩
abbrev S1x1x2 : Shape := ⟨3, ![1, 1, 2]⟩
abbrev S8x512 : Shape := ⟨2, ![8, 512]⟩
abbrev S1x1x32x512 : Shape := ⟨4, ![1, 1, 32, 512]⟩
abbrev S32x512 : Shape := ⟨2, ![32, 512]⟩
abbrev S1 : Shape := ⟨1, ![1]⟩
abbrev S1x8x512 : Shape := ⟨3, ![1, 8, 512]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 16
  | .vmem => 8
  | .smem => 4
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S7, .f32⟩
  | .hbm, ⟨3, _⟩ => ⟨S8, .f32⟩
  | .hbm, ⟨4, _⟩ => ⟨S64x2x256x512, .f32⟩
  | .hbm, ⟨5, _⟩ => ⟨S64x2x256x512, .f32⟩
  | .hbm, ⟨6, _⟩ => ⟨S2x1x2, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S4x1x256x512, .f32⟩
  | .local _ .vmem, ⟨1, _⟩ => ⟨S4x1x256x512, .f32⟩
  | .local _ .vmem, ⟨2, _⟩ => ⟨S4x1x256x512, .f32⟩
  | .local _ .vmem, ⟨3, _⟩ => ⟨S4x1x256x512, .f32⟩
  | .local _ .vmem, ⟨4, _⟩ => ⟨S4x1x256x512, .f32⟩
  | .local _ .vmem, ⟨5, _⟩ => ⟨S4x1x256x512, .f32⟩
  | .local _ .vmem, ⟨6, _⟩ => ⟨S4x1x256x512, .f32⟩
  | .local _ .vmem, ⟨7, _⟩ => ⟨S4x1x256x512, .f32⟩
  | .local _ .smem, ⟨0, _⟩ => ⟨S7, .f32⟩
  | .local _ .smem, ⟨1, _⟩ => ⟨S8, .f32⟩
  | .local _ .smem, ⟨2, _⟩ => ⟨S1x1x2, .f32⟩
  | .local _ .smem, ⟨3, _⟩ => ⟨S1x1x2, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_stg6_1 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5002 : BitVec 1 := Scalar.cmpi .eq arg1 c0_i32
  let v5003 : BitVec 32 := Scalar.extui v5002
  let c0_i32_1780 : BitVec 32 := 0#32
  let v5004 : BitVec 1 := Scalar.cmpi .ne v5003 c0_i32_1780
  v5004

def k0_cond2 (i : grid0.Coords) : BitVec 1 :=
  let arg1 : BitVec 32 := BitVec.ofNat 32 (i 1).val
  let c0_i32_1781 : BitVec 32 := 0#32
  let v5005 : BitVec 1 := Scalar.cmpi .sgt arg1 c0_i32_1781
  let v5006 : BitVec 32 := Scalar.extui v5005
  let c0_i32_1782 : BitVec 32 := 0#32
  let v5007 : BitVec 1 := Scalar.cmpi .ne v5006 c0_i32_1782
  v5007

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .smem S1x1x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S64x512x512 : Shape := ⟨3, ![64, 512, 512]⟩
abbrev S7 : Shape := ⟨1, ![7]⟩
abbrev S8 : Shape := ⟨1, ![8]⟩
abbrev S64x512x512x1 : Shape := ⟨4, ![64, 512, 512, 1]⟩
abbrev S1x1x1x8 : Shape := ⟨4, ![1, 1, 1, 8]⟩
abbrev S64x512x512x8 : Shape := ⟨4, ![64, 512, 512, 8]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S7, .f32⟩
  | .hbm, ⟨3, _⟩ => ⟨S8, .f32⟩
  | .hbm, ⟨4, _⟩ => ⟨S64x512x512, .f32⟩
  | .hbm, ⟨5, _⟩ => ⟨S64x512x512, .f32⟩
  | .hbm, ⟨6, _⟩ => ⟨S64x512x512x1, .f32⟩
  | .hbm, ⟨7, _⟩ => ⟨S1x1x1x8, .f32⟩
  | .hbm, ⟨8, _⟩ => ⟨S64x512x512x8, .f32⟩
  | .hbm, ⟨9, _⟩ => ⟨S64x512x512x8, .f32⟩
  | .hbm, ⟨10, _⟩ => ⟨S64x512x512x8, .i1⟩
  | .hbm, ⟨11, _⟩ => ⟨S64x512x512x8, .i32⟩
  | .hbm, ⟨12, _⟩ => ⟨S_, .i32⟩
  | .hbm, ⟨13, _⟩ => ⟨S64x512x512, .i32⟩
  | .hbm, ⟨14, _⟩ => ⟨S_, .i32⟩
  | .hbm, ⟨15, _⟩ => ⟨S64x512x512, .i32⟩
  | .hbm, ⟨16, _⟩ => ⟨S64x512x512, .i32⟩
  | .hbm, ⟨17, _⟩ => ⟨S_, .i32⟩
  | .hbm, ⟨18, _⟩ => ⟨S64x512x512, .i32⟩
  | .hbm, ⟨19, _⟩ => ⟨S64x512x512, .i1⟩
  | .hbm, ⟨20, _⟩ => ⟨S_, .i32⟩
  | .hbm, ⟨21, _⟩ => ⟨S64x512x512, .i32⟩
  | .hbm, ⟨22, _⟩ => ⟨S64x512x512, .i1⟩
  | .hbm, ⟨23, _⟩ => ⟨S64x512x512, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S64x512x512, .i32⟩
  | .hbm, ⟨28, _⟩ => ⟨S64x512x512, .i32⟩
  | .hbm, ⟨29, _⟩ => ⟨S_, .i32⟩
  | .hbm, ⟨30, _⟩ => ⟨S64x512x512, .i32⟩
  | .hbm, ⟨31, _⟩ => ⟨S64x512x512, .i32⟩
  | .hbm, ⟨32, _⟩ => ⟨S_, .i32⟩
  | .hbm, ⟨33, _⟩ => ⟨S64x512x512, .i32⟩
  | .hbm, ⟨34, _⟩ => ⟨S64x512x512, .i1⟩
  | .hbm, ⟨35, _⟩ => ⟨S_, .i32⟩
  | .hbm, ⟨36, _⟩ => ⟨S64x512x512, .i32⟩
  | .hbm, ⟨37, _⟩ => ⟨S64x512x512, .i32⟩
  | .hbm, ⟨38, _⟩ => ⟨S64x512x512, .i32⟩
  | .hbm, ⟨39, _⟩ => ⟨S64x512x512x1, .i32⟩
  | .hbm, ⟨40, _⟩ => ⟨S64x512x512, .f32⟩
  | .hbm, ⟨41, _⟩ => ⟨S_, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S_, .f32⟩
  | .hbm, ⟨46, _⟩ => ⟨S_, .f32⟩
  | .hbm, ⟨47, _⟩ => ⟨S64x512x512, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S_, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_c_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Proof.Chain.lean ====
/- What one grid point of the kernel computes, written once: the body walks over sixty-four slabs of thirty-two rows,
   adding each slab's weighted errors and its count of valid targets to two running tiles, and then sums each tile. -/
module

public import proofs.«01_k».proof.Proof.Gen.KernelIdeal.Frame

@[expose] public section

set_option maxRecDepth 65536

noncomputable section

namespace Cert.KernelIdeal.Gen

open Idealize.ShloMosaic Idealize.ShloMosaic.TcCoe Idealize.ShloMosaic.Tactic

variable {F : FTy → Type} [FloatOps F]

/-- A slab's rows as a matrix. -/
def slabMat (y : Vec F S1x1x32x512 .f32) : FVec F S32x512 .f32 := shapeCast S32x512 y shapeCasts_S1x1x32x512_S32x512

/-- One step of the weight search: where the target is at least `e`, the weight is `w`. -/
def pick (e w : Elt F .f32) (y prev : FVec F S32x512 .f32) : FVec F S32x512 .f32 :=
  select (cmpf .oge y (broadcast S32x512 e)) (broadcast S32x512 w) prev

/-- The weights of a slab before the upper bound is looked at: the last bin whose lower edge the target reaches. -/
def searched (W E : ℕ → Elt F .f32) (y : FVec F S32x512 .f32) : FVec F S32x512 .f32 :=
  pick (E 6) (W 6) y (pick (E 5) (W 5) y (pick (E 4) (W 4) y (pick (E 3) (W 3) y (pick (E 2) (W 2) y (pick (E 1) (W 1) y
    (pick (E 0) (W 0) y (broadcast S32x512 (Scalar.ofBits .f32 0x00000000#32))))))))

/-- Where the target is below the top edge. -/
def below (E : ℕ → Elt F .f32) (y : FVec F S32x512 .f32) : IVec S32x512 1 := cmpf .olt y (broadcast S32x512 (E 7))

/-- A slab's weighted absolute errors. -/
def slabErr (W E : ℕ → Elt F .f32) (y p : Vec F S1x1x32x512 .f32) : FVec F S32x512 .f32 :=
  mulf (select (below E (slabMat y)) (searched W E (slabMat y)) (broadcast S32x512 (Scalar.ofBits .f32 0x00000000#32)))
    (absf (subf (slabMat p) (slabMat y)))

/-- A slab's indicator of the valid targets. -/
def slabCnt (E : ℕ → Elt F .f32) (y : Vec F S1x1x32x512 .f32) : FVec F S32x512 .f32 :=
  select (andi (cmpf .oge (slabMat y) (broadcast S32x512 (E 0))) (below E (slabMat y)))
    (broadcast S32x512 (Scalar.ofBits .f32 0x3F800000#32)) (broadcast S32x512 (Scalar.ofBits .f32 0x00000000#32))

/-- The four eight-row parts of a slab's matrix added to a running tile. -/
def addParts (a : FVec F S8x512 .f32) (v : FVec F S32x512 .f32) : FVec F S8x512 .f32 :=
  addf (addf (addf (addf a (extractStridedSlice S8x512 ![0, 0] v slices_S32x512_o0_0_S8x512))
    (extractStridedSlice S8x512 ![8, 0] v slices_S32x512_o8_0_S8x512))
    (extractStridedSlice S8x512 ![16, 0] v slices_S32x512_o16_0_S8x512))
    (extractStridedSlice S8x512 ![24, 0] v slices_S32x512_o24_0_S8x512)

/-- The running tile after `n` slabs, from `a`. -/
def runTile (V : ℕ → FVec F S32x512 .f32) (a : FVec F S8x512 .f32) : ℕ → FVec F S8x512 .f32
  | 0 => a
  | n + 1 => addParts (runTile V a n) (V n)

/-- A running tile's sum. -/
def tileSum (a : FVec F S8x512 .f32) : Elt F .f32 :=
  extractAt ![0, 0, 0] (shapeCast S1x1x1 (multiReduction .add [1, 2] S1 (shapeCast S1x8x512 a shapeCasts_S8x512_S1x8x512)
    0x00000000#32 reduces_S1x8x512_S1 (.inl rfl) rfl) shapeCasts_S1_S1x1x1) inpos_S1x1x1_p0_0_0

/-- Slab `n` of a block lies in it. -/
theorem slab_inb (n : ℕ) : ∀ a, (![n / 8 % 4, 0, 32 * (n % 8), 0] : Fin 4 → ℕ) a + S1x1x32x512.size a ≤ S4x1x256x512.size a := by
  have h1 := Nat.mod_lt (n / 8) (show 0 < 4 by decide)
  have h2 := Nat.mod_lt n (show 0 < 8 by decide)
  intro a
  fin_cases a
  · show n / 8 % 4 + 1 ≤ 4; omega
  · show 0 + 1 ≤ 1; omega
  · show 32 * (n % 8) + 32 ≤ 256; omega
  · show 0 + 512 ≤ 512; omega

/-- Slab `n` of a block, as a load. -/
def slab (x : Vec F S4x1x256x512 .f32) (n : ℕ) : Vec F S1x1x32x512 .f32 :=
  View.ld x (Rect.unit (s := S4x1x256x512) ![n / 8 % 4, 0, 32 * (n % 8), 0] S1x1x32x512.size (slab_inb n))

/-- The running tile after the slabs of the two halves. -/
def halves (V0 V1 : ℕ → FVec F S32x512 .f32) : FVec F S8x512 .f32 :=
  runTile V1 (runTile V0 (broadcast S8x512 (Scalar.ofBits .f32 0x00000000#32)) 32) 32

/-- The tile of weighted errors of one grid point. -/
def errTile (W E : ℕ → Elt F .f32) (Y0 Y1 P0 P1 : ℕ → Vec F S1x1x32x512 .f32) : FVec F S8x512 .f32 :=
  halves (fun n => slabErr W E (Y0 n) (P0 n)) (fun n => slabErr W E (Y1 n) (P1 n))
/-- The tile of counts of one grid point. -/
def cntTile (E : ℕ → Elt F .f32) (Y0 Y1 : ℕ → Vec F S1x1x32x512 .f32) : FVec F S8x512 .f32 :=
  halves (fun n => slabCnt E (Y0 n)) (fun n => slabCnt E (Y1 n))

theorem word_inb (N i : ℕ) (h : i < N) : ∀ a, (![i] : Fin 1 → ℕ) a + S1.size a ≤ (⟨1, ![N]⟩ : Shape).size a := by
  intro a; fin_cases a; show i + 1 ≤ N; omega

/-- Slab `n` as the body loads it from a whole staging buffer. -/
def slabAt (a : Memref sig .tc .vmem S4x1x256x512 .f32) (ha : a.IsWhole) (x : Vec F S4x1x256x512 .f32) (n : ℕ) : Vec F S1x1x32x512 .f32 :=
  View.readAt (Elt F) a.view (Rect.unit (s := S4x1x256x512) ![n / 8 % 4, 0, 32 * (n % 8), 0] S1x1x32x512.size (slab_inb n)).toLoadRect (ha.unread x)

theorem slabAt_eq (a : Memref sig .tc .vmem S4x1x256x512 .f32) (ha : a.IsWhole) (x : Vec F S4x1x256x512 .f32) : slabAt a ha x = slab x := by
  funext n; unfold slabAt slab; rw [View.readAt_eq_ld, ha.read_unread]

/-- Weight `n` as the body loads it. -/
def wAt (a : Memref sig .tc .smem S7 .f32) (ha : a.IsWhole) (x : Vec F S7 .f32) (n : ℕ) : Elt F .f32 :=
  View.readAt (Elt F) a.view (Rect.unit (s := S7) ![n % 7] S1.size (word_inb 7 (n % 7) (Nat.mod_lt n (by decide)))).toLoadRect (ha.unread x) (Shape.Idx.first (show 0 < S1.numel by decide))
/-- Edge `n` as the body loads it. -/
def eAt (a : Memref sig .tc .smem S8 .f32) (ha : a.IsWhole) (x : Vec F S8 .f32) (n : ℕ) : Elt F .f32 :=
  View.readAt (Elt F) a.view (Rect.unit (s := S8) ![n % 8] S1.size (word_inb 8 (n % 8) (Nat.mod_lt n (by decide)))).toLoadRect (ha.unread x) (Shape.Idx.first (show 0 < S1.numel by decide))

end Cert.KernelIdeal.Gen

end
-- ==== Proof.Point.lean ====
/- What one grid point leaves in its two output words, in closed form: at a core's first point the sums of the point's
   two tiles, at every later one those sums added to what the point before left. -/
module

public import proofs.«01_k».proof.Proof.Chain
public import Idealize.ShloMosaic.Lib.Pipeline.ValueKit
public import Idealize.ShloMosaic.Lib.ValueIdx

@[expose] public section

set_option maxRecDepth 65536

noncomputable section

namespace Cert.KernelIdeal.Gen

open Idealize.ShloMosaic Idealize.ShloMosaic.TcCoe Idealize.ShloMosaic.Tactic

variable {F : FTy → Type} [FloatOps F]

/-- Two output words. -/
def words (a b : Elt F .f32) : Vec F S1x1x2 .f32 := fun y => if (y 2 : ℕ) = 0 then a else b

/-- One store into each of the two words leaves both. -/
theorem canon_words (a b : Elt F .f32) :
    View.canon (Val := Elt F) (e := .f32) [⟨Rect.unit (s := S1x1x2) ![0, 0, 1] ![1, 1, 1] inb_S1x1x2_S1x1x1_0_0_1, fun _ => b⟩,
      ⟨Rect.unit (s := S1x1x2) ![0, 0, 0] ![1, 1, 1] inb_S1x1x2_S1x1x1_0_0_0, fun _ => a⟩] = words a b := by
  funext y
  have h0 : (y 0 : ℕ) < 1 := (y 0).isLt
  have h1 : (y 1 : ℕ) < 1 := (y 1).isLt
  have h2 : (y 2 : ℕ) < 2 := (y 2).isLt
  refine View.canon_eq_of_allAt _ y _ ?_ (View.allAt_cons_unit _ _ _ _ _ ?_ (View.allAt_cons_unit _ _ _ _ _ ?_ (View.allAt_nil _ _)))
  · by_cases h : (y 2 : ℕ) = 0
    · refine ⟨_, List.mem_cons_of_mem _ List.mem_cons_self, (Rect.mem_set_unit (inb := inb_S1x1x2_S1x1x1_0_0_0)).mpr fun k => ?_⟩
      fin_cases k
      · exact ⟨Nat.zero_le _, h0⟩
      · exact ⟨Nat.zero_le _, h1⟩
      · exact ⟨Nat.zero_le _, lt_of_eq_of_lt h Nat.one_pos⟩
    · refine ⟨_, List.mem_cons_self, (Rect.mem_set_unit (inb := inb_S1x1x2_S1x1x1_0_0_1)).mpr fun k => ?_⟩
      fin_cases k
      · exact ⟨Nat.zero_le _, h0⟩
      · exact ⟨Nat.zero_le _, h1⟩
      · exact ⟨Nat.one_le_iff_ne_zero.mpr h, h2⟩
  · intro x hx
    have e : (y 2 : ℕ) = 1 + (x 2 : ℕ) := hx 2
    exact (if_neg (by omega)).symm
  · intro x hx
    have e : (y 2 : ℕ) = 0 + (x 2 : ℕ) := hx 2
    have l : (x 2 : ℕ) < 1 := (x 2).isLt
    exact (if_pos (by omega)).symm

/-- The weight words of a whole buffer. -/
theorem wAt_eq (a : Memref sig .tc .smem S7 .f32) (ha : a.IsWhole) (x : Vec F S7 .f32) :
    wAt a ha x = fun n => x (ix1 ⟨n % 7, Nat.mod_lt n (by decide)⟩) := by
  funext n; unfold wAt; rw [View.readAt_eq_ld, ha.read_unread]
  exact View.ld_unit_apply_of _ _ _ _ _ _ fun k => by fin_cases k; rfl
/-- The edge words of a whole buffer. -/
theorem eAt_eq (a : Memref sig .tc .smem S8 .f32) (ha : a.IsWhole) (x : Vec F S8 .f32) :
    eAt a ha x = fun n => x (ix1 ⟨n % 8, Nat.mod_lt n (by decide)⟩) := by
  funext n; unfold eAt; rw [View.readAt_eq_ld, ha.read_unread]
  exact View.ld_unit_apply_of _ _ _ _ _ _ fun k => by fin_cases k; rfl

/-- A word of the output as the body loads it back. -/
def oAt (a : Memref sig .tc .smem S1x1x2 .f32) (ha : a.IsWhole) (x : Vec F S1x1x2 .f32) (n : Fin 2) : Elt F .f32 :=
  View.readAt (Elt F) a.view (Rect.unit (s := S1x1x2) ![0, 0, n.val] ![1, 1, 1]
    (by intro k; fin_cases k <;> first | exact Nat.le_refl 1 | exact n.isLt)).toLoadRect (ha.unread x) (Shape.Idx.first (show 0 < S1x1x1.numel by decide))
theorem oAt_eq (a : Memref sig .tc .smem S1x1x2 .f32) (ha : a.IsWhole) (x : Vec F S1x1x2 .f32) (n : Fin 2) : oAt a ha x n = x (ix3 0 0 n) := by
  unfold oAt; rw [View.readAt_eq_ld, ha.read_unread]
  exact View.ld_unit_apply_of _ _ _ _ _ _ fun k => by fin_cases k <;> rfl

/-- The sum of a grid point's weighted errors, from its input blocks. -/
def ptErr (x0 : Vec F S7 .f32) (x1 : Vec F S8 .f32) (x2 x3 x4 x5 : Vec F S4x1x256x512 .f32) : Elt F .f32 :=
  tileSum (errTile (fun n => x0 (ix1 ⟨n % 7, Nat.mod_lt n (by decide)⟩)) (fun n => x1 (ix1 ⟨n % 8, Nat.mod_lt n (by decide)⟩)) (slab x2) (slab x3) (slab x4) (slab x5))
/-- The sum of a grid point's counts. -/
def ptCnt (x1 : Vec F S8 .f32) (x2 x3 : Vec F S4x1x256x512 .f32) : Elt F .f32 :=
  tileSum (cntTile (fun n => x1 (ix1 ⟨n % 8, Nat.mod_lt n (by decide)⟩)) (slab x2) (slab x3))

section
variable (c : Dev nD) (i : grid0.Coords) (arg2 : Memref sig .tc .smem S7 .f32) (harg2 : arg2.IsWhole) (arg3 : Memref sig .tc .smem S8 .f32) (harg3 : arg3.IsWhole) (arg4 : Memref sig .tc .vmem S4x1x256x512 .f32) (harg4 : arg4.IsWhole) (arg5 : Memref sig .tc .vmem S4x1x256x512 .f32) (harg5 : arg5.IsWhole) (arg6 : Memref sig .tc .vmem S4x1x256x512 .f32) (harg6 : arg6.IsWhole) (arg7 : Memref sig .tc .vmem S4x1x256x512 .f32) (harg7 : arg7.IsWhole) (arg8 : Memref sig .tc .smem S1x1x2 .f32) (harg8 : arg8.IsWhole)
    (x0 : Vec F S7 .f32) (x1 : Vec F S8 .f32) (x2 : Vec F S4x1x256x512 .f32) (x3 : Vec F S4x1x256x512 .f32) (x4 : Vec F S4x1x256x512 .f32) (x5 : Vec F S4x1x256x512 .f32)

/-- The stores of a core's first point. -/
theorem pieces_A (hc0 : cond0_0 i) (hc1 : ¬cond0_1 i) :
    (kernelRun0_A c i arg2 harg2 arg3 harg3 arg4 harg4 arg5 harg5 arg6 harg6 arg7 harg7 arg8 harg8 hc0 hc1 x0 x1 x2 x3 x4 x5).1
      = [⟨Rect.unit (s := S1x1x2) ![0, 0, 1] ![1, 1, 1] inb_S1x1x2_S1x1x1_0_0_1, fun _ => tileSum (cntTile (eAt arg3 harg3 x1) (slabAt arg4 harg4 x2) (slabAt arg5 harg5 x3))⟩,
        ⟨Rect.unit (s := S1x1x2) ![0, 0, 0] ![1, 1, 1] inb_S1x1x2_S1x1x1_0_0_0, fun _ => tileSum (errTile (wAt arg2 harg2 x0) (eAt arg3 harg3 x1) (slabAt arg4 harg4 x2) (slabAt arg5 harg5 x3) (slabAt arg6 harg6 x4) (slabAt arg7 harg7 x5))⟩] := by
  sl_kernel_rfl

/-- The stores of a later point: the same sums added to the words loaded back. -/
theorem pieces_B (hc0 : ¬cond0_0 i) (hc1 : cond0_1 i) (xo6 : Vec F S1x1x2 .f32) :
    (kernelRun0_B c i arg2 harg2 arg3 harg3 arg4 harg4 arg5 harg5 arg6 harg6 arg7 harg7 arg8 harg8 hc0 hc1 x0 x1 x2 x3 x4 x5 xo6).1
      = [⟨Rect.unit (s := S1x1x2) ![0, 0, 1] ![1, 1, 1] inb_S1x1x2_S1x1x1_0_0_1, fun _ => Scalar.addf (oAt arg8 harg8 xo6 1) (tileSum (cntTile (eAt arg3 harg3 x1) (slabAt arg4 harg4 x2) (slabAt arg5 harg5 x3)))⟩,
        ⟨Rect.unit (s := S1x1x2) ![0, 0, 0] ![1, 1, 1] inb_S1x1x2_S1x1x1_0_0_0, fun _ => Scalar.addf (oAt arg8 harg8 xo6 0) (tileSum (errTile (wAt arg2 harg2 x0) (eAt arg3 harg3 x1) (slabAt arg4 harg4 x2) (slabAt arg5 harg5 x3) (slabAt arg6 harg6 x4) (slabAt arg7 harg7 x5)))⟩] := by
  sl_kernel_rfl

/-- A core's first point leaves its two sums. -/
theorem out_A (hc0 : cond0_0 i) (hc1 : ¬cond0_1 i) :
    out0_A_6 c i arg2 harg2 arg3 harg3 arg4 harg4 arg5 harg5 arg6 harg6 arg7 harg7 arg8 harg8 hc0 hc1 x0 x1 x2 x3 x4 x5
      = words (ptErr x0 x1 x2 x3 x4 x5) (ptCnt x1 x2 x3) := by
  unfold out0_A_6
  rw [View.read_writes_eq_canon _ _ _ (cover0_A_6 c i arg2 harg2 arg3 harg3 arg4 harg4 arg5 harg5 arg6 harg6 arg7 harg7 arg8 harg8 hc0 hc1 x0 x1 x2 x3 x4 x5),
    pieces_A, canon_words, wAt_eq, eAt_eq, slabAt_eq, slabAt_eq, slabAt_eq, slabAt_eq]
  rfl

/-- A later point adds its two sums to the words it finds. -/
theorem out_B (hc0 : ¬cond0_0 i) (hc1 : cond0_1 i) (xo6 : Vec F S1x1x2 .f32) :
    out0_B_6 c i arg2 harg2 arg3 harg3 arg4 harg4 arg5 harg5 arg6 harg6 arg7 harg7 arg8 harg8 hc0 hc1 x0 x1 x2 x3 x4 x5 xo6
      = words (Scalar.addf (xo6 (ix3 0 0 0)) (ptErr x0 x1 x2 x3 x4 x5)) (Scalar.addf (xo6 (ix3 0 0 1)) (ptCnt x1 x2 x3)) := by
  unfold out0_B_6
  rw [View.read_writes_eq_canon _ _ _ (cover0_B_6 c i arg2 harg2 arg3 harg3 arg4 harg4 arg5 harg5 arg6 harg6 arg7 harg7 arg8 harg8 hc0 hc1 x0 x1 x2 x3 x4 x5 xo6),
    pieces_B, canon_words, oAt_eq, oAt_eq, wAt_eq, eAt_eq, slabAt_eq, slabAt_eq, slabAt_eq, slabAt_eq]
  rfl
end

end Cert.KernelIdeal.Gen

end
-- ==== Proof.Meaning.lean ====
/- What one grid point's two sums are over the extended reals: the weighted errors and the valid targets of its two
   blocks, summed over every entry once. -/
module

public import proofs.«01_k».proof.Proof.Point
public import Idealize.ShloMosaic.Lib.Pointwise
public import Idealize.ShloMosaic.PureOps.Ideal.Laws
public import Idealize.ShloMosaic.Lib.IdealHost

@[expose] public section

set_option maxRecDepth 16384

noncomputable section

namespace Cert.KernelIdeal.Gen

open Idealize.ShloMosaic Idealize.ShloMosaic.TcCoe Idealize.ShloMosaic.Tactic
open Finset
open Idealize.ShloMosaic.ValueIdx (select_apply cmpf_apply broadcast_apply)

/-- The weight of target `y`: that of the last bin whose lower edge `y` reaches, zero where it reaches none. -/
def wsel (W E : ℕ → EReal) (y : EReal) : EReal :=
  if E 6 ≤ y then W 6 else if E 5 ≤ y then W 5 else if E 4 ≤ y then W 4 else if E 3 ≤ y then W 3
  else if E 2 ≤ y then W 2 else if E 1 ≤ y then W 1 else if E 0 ≤ y then W 0 else 0

/-- The weighted error of one entry. -/
def errOf (W E : ℕ → EReal) (y p : EReal) : EReal := (if y < E 7 then wsel W E y else 0) * FloatOps.absf (F := Ideal) (φ := .f32) (p - y)

/-- Whether one entry counts. -/
def cntOf (E : ℕ → EReal) (y : EReal) : EReal := if E 0 ≤ y ∧ y < E 7 then 1 else 0

/-! ## Sums over ranges -/

/-- A sum over a product of two lengths is the double sum. -/
theorem sum_range_mul (f : ℕ → EReal) (n : ℕ) : ∀ m : ℕ, ∑ x ∈ range (m * n), f x = ∑ i ∈ range m, ∑ j ∈ range n, f (n * i + j)
  | 0 => by simp
  | m + 1 => by rw [Nat.succ_mul, sum_range_add, sum_range_mul f n m, sum_range_succ, Nat.mul_comm m n]

/-! ## The tiles -/

/-- A running tile's entry is the sum of what was added to it. -/
theorem runTile_apply (V : ℕ → FVec Ideal S32x512 .f32) (a : FVec Ideal S8x512 .f32) (i : Fin 8) (l : Fin 512) (n : ℕ) :
    runTile V a n (ix2 i l) = a (ix2 i l) + ∑ k ∈ range n, ∑ q ∈ range 4, V k (ix2 ⟨(8 * q + i) % 32, Nat.mod_lt _ (by decide)⟩ l) := by
  have hi := i.isLt
  have part (q : ℕ) (hq : q < 4) (v : FVec Ideal S32x512 .f32) (h : S32x512.Slices ![8 * q, 0] S8x512) :
      extractStridedSlice S8x512 ![8 * q, 0] v h (ix2 i l) = v (ix2 ⟨(8 * q + i) % 32, Nat.mod_lt _ (by decide)⟩ l) := by
    refine congrArg v (funext fun a => Fin.ext ?_)
    fin_cases a
    · show 8 * q + i.val = (8 * q + i.val) % 32; omega
    · show 0 + l.val = l.val; omega
  induction n with
  | zero => rw [range_zero, sum_empty, add_zero]; rfl
  | succ n ih =>
    rw [sum_range_succ, ← add_assoc, ← ih, sum_range_succ, sum_range_succ, sum_range_succ, sum_range_one]
    rw [← part 0 (by decide) (V n) slices_S32x512_o0_0_S8x512, ← part 1 (by decide) (V n) slices_S32x512_o8_0_S8x512,
      ← part 2 (by decide) (V n) slices_S32x512_o16_0_S8x512, ← part 3 (by decide) (V n) slices_S32x512_o24_0_S8x512]
    rw [← add_assoc, ← add_assoc, ← add_assoc]
    rfl

/-- A tile's sum is the sum of its entries. -/
theorem tileSum_eq (a : FVec Ideal S8x512 .f32) : tileSum a = ∑ i : Fin 8, ∑ l : Fin 512, a (ix2 i l) := by
  unfold tileSum
  refine (Ideal.multiReduction_add_total (shapeCast S1x8x512 a shapeCasts_S8x512_S1x8x512) 0x00000000#32 reduces_S1x8x512_S1 (by decide) (.inl rfl) rfl _).trans ?_
  exact (Equiv.sum_comp (Shape.reshapeEquiv shapeCasts_S8x512_S1x8x512) a).trans (sum_idx2 _)

/-- Two halves' tile, summed: every slab's entries. -/
theorem tileSum_halves (V0 V1 : ℕ → FVec Ideal S32x512 .f32) :
    tileSum (halves V0 V1) = (∑ k ∈ range 32, ∑ i : Fin 32, ∑ l : Fin 512, V0 k (ix2 i l)) + ∑ k ∈ range 32, ∑ i : Fin 32, ∑ l : Fin 512, V1 k (ix2 i l) := by
  have rows (V : FVec Ideal S32x512 .f32) (l : Fin 512) : ∑ i : Fin 8, ∑ q ∈ range 4, V (ix2 ⟨(8 * q + i) % 32, Nat.mod_lt _ (by decide)⟩ l) = ∑ i : Fin 32, V (ix2 i l) := by
    rw [sum_comm]
    have e : ∀ i : Fin 32, V (ix2 i l) = (fun x : ℕ => V (ix2 ⟨x % 32, Nat.mod_lt _ (by decide)⟩ l)) i.val := fun i => by
      refine congrArg V (congrArg (fun z => ix2 z l) (Fin.ext ?_)); exact (Nat.mod_eq_of_lt i.isLt).symm
    rw [Fintype.sum_congr _ _ e, ← Finset.sum_range (fun x : ℕ => V (ix2 ⟨x % 32, Nat.mod_lt _ (by decide)⟩ l))]
    refine Eq.trans ?_ (sum_range_mul (fun x : ℕ => V (ix2 ⟨x % 32, Nat.mod_lt _ (by decide)⟩ l)) 8 4).symm
    refine sum_congr rfl fun q _ => ?_
    rw [Finset.sum_range]
  rw [tileSum_eq]
  have e (i : Fin 8) (l : Fin 512) : halves V0 V1 (ix2 i l)
      = (∑ k ∈ range 32, ∑ q ∈ range 4, V0 k (ix2 ⟨(8 * q + i) % 32, Nat.mod_lt _ (by decide)⟩ l))
        + ∑ k ∈ range 32, ∑ q ∈ range 4, V1 k (ix2 ⟨(8 * q + i) % 32, Nat.mod_lt _ (by decide)⟩ l) := by
    unfold halves
    rw [runTile_apply, runTile_apply, show (broadcast S8x512 (Scalar.ofBits (F := Ideal) .f32 0x00000000#32)) (ix2 i l) = (0 : EReal) from Ideal.ofBits_zero_f32, zero_add]
  have half (V : ℕ → FVec Ideal S32x512 .f32) : ∑ i : Fin 8, ∑ l : Fin 512, ∑ k ∈ range 32, ∑ q ∈ range 4, V k (ix2 ⟨(8 * q + i) % 32, Nat.mod_lt _ (by decide)⟩ l)
      = ∑ k ∈ range 32, ∑ i : Fin 32, ∑ l : Fin 512, V k (ix2 i l) := by
    rw [sum_comm]
    rw [Finset.sum_congr rfl fun (l : Fin 512) _ => sum_comm, sum_comm]
    refine sum_congr rfl fun k _ => ?_
    rw [Finset.sum_congr rfl fun (l : Fin 512) _ => rows (V k) l, sum_comm]
  simp only [e, sum_add_distrib, half]

/-! ## The slabs -/

/-- An entry of a block, at coordinates that are numbers. -/
def at4 (x : Vec Ideal S4x1x256x512 .f32) (b r l : ℕ) : EReal :=
  x (ix4 ⟨b % 4, Nat.mod_lt _ (by decide)⟩ 0 ⟨r % 256, Nat.mod_lt _ (by decide)⟩ ⟨l % 512, Nat.mod_lt _ (by decide)⟩)

theorem slabMat_apply (x : Vec Ideal S4x1x256x512 .f32) (n : ℕ) (i : Fin 32) (l : Fin 512) :
    slabMat (slab x n) (ix2 i l) = at4 x (n / 8) (32 * (n % 8) + i) l := by
  have h : slabMat (slab x n) (ix2 i l) = slab x n (ix4 0 0 i l) := by
    unfold slabMat
    generalize slab x n = v
    pointwise
  rw [h]
  have hi := i.isLt
  have hl := l.isLt
  refine View.ld_unit_apply_of _ _ _ _ _ _ fun k => ?_
  fin_cases k
  · rfl
  · rfl
  · show (32 * (n % 8) + i.val) % 256 = 32 * (n % 8) + i.val; omega
  · show l.val % 512 = 0 + l.val; omega

theorem slabErr_apply (W E : ℕ → EReal) (y p : Vec Ideal S1x1x32x512 .f32) (i : S32x512.Idx) :
    slabErr (F := Ideal) W E y p i = errOf W E (slabMat y i) (slabMat p i) := by
  unfold slabErr errOf wsel below searched pick
  generalize slabMat y = y'
  generalize slabMat p = p'
  simp only [mulf, subf, absf, Scalar.ofBits, select_apply, cmpf_apply, broadcast_apply, Scalar.select, Ideal.cmpf_def, Ideal.cmp_oge_eq_one, Ideal.cmp_olt_eq_one, Ideal.ofBits_zero_f32]
  rfl

theorem slabCnt_apply (E : ℕ → EReal) (y : Vec Ideal S1x1x32x512 .f32) (i : S32x512.Idx) :
    slabCnt (F := Ideal) E y i = cntOf E (slabMat y i) := by
  unfold slabCnt cntOf below
  generalize slabMat y = y'
  simp only [Scalar.ofBits, select_apply, broadcast_apply, Scalar.select]
  refine if_congr ((IntOp.andi_eq_one).trans (and_congr (Ideal.cmp_oge_eq_one _ _) (Ideal.cmp_olt_eq_one _ _))) ?_ ?_
  · exact Ideal.ofBits_one_f32
  · exact Ideal.ofBits_zero_f32

/-- A block's 32 slabs are its rows, each once. -/
theorem sum_slabs (f : ℕ → ℕ → ℕ → EReal) : ∑ k ∈ range 32, ∑ i : Fin 32, ∑ l : Fin 512, f (k / 8) (32 * (k % 8) + i) l
    = ∑ b ∈ range 4, ∑ r ∈ range 256, ∑ l ∈ range 512, f b r l := by
  refine (sum_range_mul _ 8 4).trans (sum_congr rfl fun b _ => ?_)
  refine Eq.trans (sum_congr rfl fun j hj => ?_) (sum_range_mul (fun r => ∑ l ∈ range 512, f b r l) 32 8).symm
  have hj := mem_range.mp hj
  rw [show (8 * b + j) / 8 = b by omega, show (8 * b + j) % 8 = j by omega, Finset.sum_range]
  refine sum_congr rfl fun i _ => ?_
  rw [Finset.sum_range]

/-- The sum of `f` over the entries of a pair of blocks. -/
def blockSum (f : EReal → EReal → EReal) (x z : Vec Ideal S4x1x256x512 .f32) : EReal :=
  ∑ b ∈ range 4, ∑ r ∈ range 256, ∑ l ∈ range 512, f (at4 x b r l) (at4 z b r l)

/-- One grid point's error sum: its two halves' entries. -/
theorem ptErr_eq (x0 : Vec Ideal S7 .f32) (x1 : Vec Ideal S8 .f32) (x2 x3 x4 x5 : Vec Ideal S4x1x256x512 .f32) :
    ptErr x0 x1 x2 x3 x4 x5
      = blockSum (errOf (fun n => x0 (ix1 ⟨n % 7, Nat.mod_lt _ (by decide)⟩)) (fun n => x1 (ix1 ⟨n % 8, Nat.mod_lt _ (by decide)⟩))) x2 x4
        + blockSum (errOf (fun n => x0 (ix1 ⟨n % 7, Nat.mod_lt _ (by decide)⟩)) (fun n => x1 (ix1 ⟨n % 8, Nat.mod_lt _ (by decide)⟩))) x3 x5 := by
  unfold ptErr errTile blockSum
  rw [tileSum_halves]
  simp only [slabErr_apply, slabMat_apply]
  rw [sum_slabs fun b r l => errOf _ _ (at4 x2 b r l) (at4 x4 b r l), sum_slabs fun b r l => errOf _ _ (at4 x3 b r l) (at4 x5 b r l)]

/-- One grid point's count: its two halves' entries. -/
theorem ptCnt_eq (x1 : Vec Ideal S8 .f32) (x2 x3 : Vec Ideal S4x1x256x512 .f32) :
    ptCnt x1 x2 x3
      = blockSum (fun y _ => cntOf (fun n => x1 (ix1 ⟨n % 8, Nat.mod_lt _ (by decide)⟩)) y) x2 x2
        + blockSum (fun y _ => cntOf (fun n => x1 (ix1 ⟨n % 8, Nat.mod_lt _ (by decide)⟩)) y) x3 x3 := by
  unfold ptCnt cntTile blockSum
  rw [tileSum_halves]
  simp only [slabCnt_apply, slabMat_apply]
  rw [sum_slabs fun b r l => cntOf _ (at4 x2 b r l), sum_slabs fun b r l => cntOf _ (at4 x3 b r l)]

end Cert.KernelIdeal.Gen

end
-- ==== Proof.Grid.lean ====
/- The two words the region leaves for each half of the grid: the sums over the blocks that half visits, in terms of
   the argument arrays. -/
module

public import proofs.«01_k».proof.Proof.Meaning
public import Idealize.ShloMosaic.Lib.Pipeline.FrameTail

@[expose] public section

set_option maxRecDepth 16384

noncomputable section

namespace Cert.KernelIdeal.Gen

open Idealize.ShloMosaic Idealize.ShloMosaic.TcCoe Idealize.ShloMosaic.Tactic
open Finset

variable (m : (ℓ : Loc nD τ sig) → Buf (Elt Ideal) ℓ) (c : Dev nD)

/-! ## The arrays -/

/-- An entry of an argument array, at coordinates that are numbers. -/
def at3 (y : Vec Ideal S64x512x512 .f32) (b r l : ℕ) : EReal :=
  y (ix3 ⟨b % 64, Nat.mod_lt _ (by decide)⟩ ⟨r % 512, Nat.mod_lt _ (by decide)⟩ ⟨l % 512, Nat.mod_lt _ (by decide)⟩)

/-- The arguments on device `c`. -/
abbrev argY : Vec Ideal S64x512x512 .f32 := m ((c : Thread nD τ).loc main_arg0)
abbrev argP : Vec Ideal S64x512x512 .f32 := m ((c : Thread nD τ).loc main_arg1)
abbrev argW : Vec Ideal S7 .f32 := m ((c : Thread nD τ).loc main_arg2)
abbrev argE : Vec Ideal S8 .f32 := m ((c : Thread nD τ).loc main_arg3)

/-- The weights and the edges, at a number. -/
def wOf (w : Vec Ideal S7 .f32) (n : ℕ) : EReal := w (ix1 ⟨n % 7, Nat.mod_lt _ (by decide)⟩)
def eOf (e : Vec Ideal S8 .f32) (n : ℕ) : EReal := e (ix1 ⟨n % 8, Nat.mod_lt _ (by decide)⟩)

/-- The targets and the predictions with their rows split in two halves. -/
theorem V_v0 : V m c main_v0 = shapeCast S64x2x256x512 (argY m c) shapeCasts_S64x512x512_S64x2x256x512 := by
  unfold V V0
  simp only [List.flatten_cons, List.flatten_nil, List.append_nil, hostOps0]
  after_results
  rfl
theorem V_v1 : V m c main_v1 = shapeCast S64x2x256x512 (argP m c) shapeCasts_S64x512x512_S64x2x256x512 := by
  unfold V V0
  simp only [List.flatten_cons, List.flatten_nil, List.append_nil, hostOps0]
  after_results
  rfl

/-- An entry of the split array is the array's. -/
theorem split_apply (y : Vec Ideal S64x512x512 .f32) (i : S64x2x256x512.Idx) :
    shapeCast S64x2x256x512 y shapeCasts_S64x512x512_S64x2x256x512 i = at3 y (i 0) (256 * (i 1) + i 2) (i 3) := by
  have h0 : (i 0 : ℕ) < 64 := (i 0).isLt
  have h1 : (i 1 : ℕ) < 2 := (i 1).isLt
  have h2 : (i 2 : ℕ) < 256 := (i 2).isLt
  have h3 : (i 3 : ℕ) < 512 := (i 3).isLt
  refine congrArg y (Shape.reshapeEquiv_eq_of_rowMajor _ ?_)
  rw [Shape.rowMajor_val_three, Shape.rowMajor_val_four]
  show ((i 0 : ℕ) % 64 * 512 + (256 * (i 1 : ℕ) + i 2) % 512) * 512 + (i 3 : ℕ) % 512 = (((i 0 : ℕ) * 2 + i 1) * 256 + i 2) * 512 + i 3
  omega

/-! ## The blocks -/

theorem idx2 : ∀ t : Fin cfg0.N, win0_2.index t = ![2 * (t.val % 8) + t.val / 8, 0, 0, 0] := (by decide +kernel : ∀ t : Fin grid0.N, _)
theorem idx3 : ∀ t : Fin cfg0.N, win0_3.index t = ![2 * (t.val % 8) + t.val / 8, 1, 0, 0] := (by decide +kernel : ∀ t : Fin grid0.N, _)
theorem idx4 : ∀ t : Fin cfg0.N, win0_4.index t = ![2 * (t.val % 8) + t.val / 8, 0, 0, 0] := (by decide +kernel : ∀ t : Fin grid0.N, _)
theorem idx5 : ∀ t : Fin cfg0.N, win0_5.index t = ![2 * (t.val % 8) + t.val / 8, 1, 0, 0] := (by decide +kernel : ∀ t : Fin grid0.N, _)
theorem idx6 : ∀ t : Fin cfg0.N, win0_6.index t = ![t.val / 8, 0, 0] := (by decide +kernel : ∀ t : Fin grid0.N, _)
theorem idx0 : ∀ t : Fin cfg0.N, win0_0.index t = ![0] := (by decide +kernel : ∀ t : Fin grid0.N, _)
theorem idx1 : ∀ t : Fin cfg0.N, win0_1.index t = ![0] := (by decide +kernel : ∀ t : Fin grid0.N, _)

/-- The weights' and the edges' blocks are the whole arrays. -/
theorem blk0 (t : Fin cfg0.N) : iblk m c 0 t = argW m c := by
  funext y
  have e := V_main_arg2 m c
  blk_simp [iblk, idx0]
  rw [e]
  refine congrArg (argW m c) (funext fun a => Fin.ext ?_)
  fin_cases a
  blk_simp [idx0]
theorem blk1 (t : Fin cfg0.N) : iblk m c 1 t = argE m c := by
  funext y
  have e := V_main_arg3 m c
  blk_simp [iblk, idx1]
  rw [e]
  refine congrArg (argE m c) (funext fun a => Fin.ext ?_)
  fin_cases a
  blk_simp [idx1]

/-- The targets' block at point `t` in the upper half of the rows, -/
theorem blk2 (t : Fin cfg0.N) (b r l : ℕ) :
    at4 (iblk m c 2 t) b r l = at3 (argY m c) (4 * (2 * (t.val % 8) + t.val / 8) + b % 4) (256 * 0 + r % 256) (l % 512) := by
  unfold at4
  blk_simp [iblk, idx2]
  rw [V_v0, split_apply]
  blk_simp [idx2]
  rw [Nat.mul_comm 4]
  rfl
/-- and in the lower half; -/
theorem blk3 (t : Fin cfg0.N) (b r l : ℕ) :
    at4 (iblk m c 3 t) b r l = at3 (argY m c) (4 * (2 * (t.val % 8) + t.val / 8) + b % 4) (256 * 1 + r % 256) (l % 512) := by
  unfold at4
  blk_simp [iblk, idx3]
  rw [V_v0, split_apply]
  blk_simp [idx3]
  rw [Nat.mul_comm 4]
  rfl
/-- the predictions' block in the upper half, -/
theorem blk4 (t : Fin cfg0.N) (b r l : ℕ) :
    at4 (iblk m c 4 t) b r l = at3 (argP m c) (4 * (2 * (t.val % 8) + t.val / 8) + b % 4) (256 * 0 + r % 256) (l % 512) := by
  unfold at4
  blk_simp [iblk, idx4]
  rw [V_v1, split_apply]
  blk_simp [idx4]
  rw [Nat.mul_comm 4]
  rfl
/-- and in the lower half. -/
theorem blk5 (t : Fin cfg0.N) (b r l : ℕ) :
    at4 (iblk m c 5 t) b r l = at3 (argP m c) (4 * (2 * (t.val % 8) + t.val / 8) + b % 4) (256 * 1 + r % 256) (l % 512) := by
  unfold at4
  blk_simp [iblk, idx5]
  rw [V_v1, split_apply]
  blk_simp [idx5]
  rw [Nat.mul_comm 4]
  rfl

/-! ## The points -/

/-- The sum of `f` over four batch entries from `4 * n` on. -/
def sumOver (f : EReal → EReal → EReal) (y p : Vec Ideal S64x512x512 .f32) (n : ℕ) : EReal :=
  ∑ b ∈ range 4, ∑ r ∈ range 512, ∑ l ∈ range 512, f (at3 y (4 * n + b) r l) (at3 p (4 * n + b) r l)

/-- Two halves of the rows are all of them. -/
theorem blockSum_halves (f : EReal → EReal → EReal) (y p : Vec Ideal S64x512x512 .f32) (n : ℕ) (x0 x1 z0 z1 : Vec Ideal S4x1x256x512 .f32)
    (h0 : ∀ b r l, at4 x0 b r l = at3 y (4 * n + b % 4) (256 * 0 + r % 256) (l % 512))
    (h1 : ∀ b r l, at4 x1 b r l = at3 y (4 * n + b % 4) (256 * 1 + r % 256) (l % 512))
    (k0 : ∀ b r l, at4 z0 b r l = at3 p (4 * n + b % 4) (256 * 0 + r % 256) (l % 512))
    (k1 : ∀ b r l, at4 z1 b r l = at3 p (4 * n + b % 4) (256 * 1 + r % 256) (l % 512)) :
    blockSum f x0 z0 + blockSum f x1 z1 = sumOver f y p n := by
  unfold blockSum sumOver
  rw [← sum_add_distrib]
  refine sum_congr rfl fun b hb => ?_
  rw [show 512 = 256 + 256 from rfl, sum_range_add _ 256 256]
  refine congrArg₂ (· + ·) (sum_congr rfl fun r hr => sum_congr rfl fun l hl => ?_) (sum_congr rfl fun r hr => sum_congr rfl fun l hl => ?_)
  · rw [h0, k0, Nat.mod_eq_of_lt (mem_range.mp hb), Nat.mod_eq_of_lt (mem_range.mp hr), Nat.mod_eq_of_lt (mem_range.mp hl)]
    norm_num
  · rw [h1, k1, Nat.mod_eq_of_lt (mem_range.mp hb), Nat.mod_eq_of_lt (mem_range.mp hr), Nat.mod_eq_of_lt (mem_range.mp hl)]

/-- The weighted errors of batch entries `4 * n` to `4 * n + 3`, -/
def errSum (n : ℕ) : EReal := sumOver (errOf (wOf (argW m c)) (eOf (argE m c))) (argY m c) (argP m c) n
/-- and how many of their targets are valid. -/
def cntSum (n : ℕ) : EReal := sumOver (fun y _ => cntOf (eOf (argE m c)) y) (argY m c) (argY m c) n

theorem ptErr_at (t : Fin cfg0.N) :
    ptErr (iblk m c 0 t) (iblk m c 1 t) (iblk m c 2 t) (iblk m c 3 t) (iblk m c 4 t) (iblk m c 5 t) = errSum m c (2 * (t.val % 8) + t.val / 8) := by
  rw [ptErr_eq, blk0, blk1]
  exact blockSum_halves _ _ _ _ _ _ _ _ (blk2 m c t) (blk3 m c t) (blk4 m c t) (blk5 m c t)
theorem ptCnt_at (t : Fin cfg0.N) :
    ptCnt (iblk m c 1 t) (iblk m c 2 t) (iblk m c 3 t) = cntSum m c (2 * (t.val % 8) + t.val / 8) := by
  rw [ptCnt_eq, blk1]
  exact blockSum_halves (fun y _ => cntOf (eOf (argE m c)) y) _ _ _ _ _ _ _ (blk2 m c t) (blk3 m c t) (blk2 m c t) (blk3 m c t)

/-- The two words after the body at position `n`: the sums over the blocks its half of the grid has visited so far. -/
theorem outs_eq : ∀ (n : ℕ) (hn : n < cfg0.N), outsAt0 m c n hn
    = words (∑ j ∈ range (n % 8 + 1), errSum m c (2 * j + n / 8)) (∑ j ∈ range (n % 8 + 1), cntSum m c (2 * j + n / 8)) := by
  intro n
  induction n with
  | zero =>
    intro hn
    rw [outsAt0_A m c ⟨0, hn⟩ (Nat.zero_mod 8) (by show ¬1 ≤ 0 % 8; omega), out_A, ptErr_at, ptCnt_at, sum_range_one, sum_range_one]
    rfl
  | succ n ih =>
    intro hn
    by_cases h0 : (n + 1) % 8 = 0
    · rw [outsAt0_A m c ⟨n + 1, hn⟩ h0 (by show ¬1 ≤ (n + 1) % 8; omega), out_A, ptErr_at, ptCnt_at]
      simp only [h0, zero_add, sum_range_one]
    · rw [outsAt0_B m c ⟨n + 1, hn⟩ h0 (by show 1 ≤ (n + 1) % 8; omega), out_B, ptErr_at, ptCnt_at]
      simp only [Nat.add_sub_cancel]
      rw [ih (Nat.lt_of_succ_lt hn)]
      have e1 : (n + 1) % 8 = n % 8 + 1 := by omega
      have e2 : (n + 1) / 8 = n / 8 := by omega
      simp only [e1, e2, sum_range_succ _ (n % 8 + 1)]
      rfl

/-- The two words each half of the grid leaves. -/
def halfWords : S2x1x2.Idx → EReal := fun i =>
  if (i 2 : ℕ) = 0 then ∑ j ∈ range 8, errSum m c (2 * j + i 0) else ∑ j ∈ range 8, cntSum m c (2 * j + i 0)

/-- The array of partial sums after the region. -/
theorem final6 : (dats m 0 c).arrAt 6 cfg0.N = halfWords m c := by
  refine (dats m 0 c).arrAt_eq_of_covers 6 _ (by decide +kernel) fun t hf y => ?_
  have ht : t.val % 8 = 7 := (flush0_6 t).mp hf
  blk_simp
  rw [after0_6, outs_eq]
  unfold halfWords words
  blk_simp [idx6]
  rw [ht]

end Cert.KernelIdeal.Gen

end
-- ==== Proof.Tail.lean ====
/- The kernel's result: the quotient of the two totals. -/
module

public import proofs.«01_k».proof.Proof.Grid

@[expose] public section

set_option maxRecDepth 16384

noncomputable section

namespace Cert.KernelIdeal.Gen

open Idealize.ShloMosaic Idealize.ShloMosaic.TcCoe Idealize.ShloMosaic.Tactic Idealize.SL.Sem
open Finset

variable (m : (ℓ : Loc nD τ sig) → Buf (Elt Ideal) ℓ) (ρ : Dev nD → PrngReg) (c : Dev nD)

/-- Word `k` of each half, summed over the halves as the host does after the region. -/
def hostSum (k : Fin 2) (h : S2x1x2.Slices ![0, 0, k.val] S2x1x1) (v : FVec Ideal S2x1x2 .f32) : FVec Ideal S_ .f32 :=
  Host.reduceAdd (shapeCast S2 (extractStridedSlice S2x1x1 ![0, 0, k.val] v h) shapeCasts_S2x1x1_S2) (constant S_ .f32 0x00000000#32) reducesTo_S2_S_d0 h_S_

/-- The host's quotient of the two. -/
def hostQuot (v : FVec Ideal S2x1x2 .f32) : FVec Ideal S_ .f32 :=
  Host.divf (hostSum 0 slices_S2x1x2_S2x1x1_0_0_0 v) (hostSum 1 slices_S2x1x2_S2x1x1_0_0_1 v)

/-- What the host's lines after the region leave in the result. -/
theorem tail_v9 : Pipeline.afterTail₀ cfgs (dats m) 0 (V0 m) [hostOps1] c main_v9 = hostQuot (halfWords m c) := by
  have e : Pipeline.withArrays (cfgs 0).spec c (V0 m c) (fun w => (dats m 0 c).arrAt w (cfgs 0).N) (Proc.tc.devRef main_v2) = halfWords m c :=
    (Pipeline.Dat.withArrays_arrAt (dats m 0 c) (by decide) (V0 m c) (A_eq m c) 6).trans (final6 m c)
  unfold Pipeline.afterTail₀
  simp only [List.flatten_cons, List.flatten_nil, List.append_nil, hostOps1]
  after_results
  rw [e]
  rfl

/-- A half's word, summed over the two halves. -/
theorem hostSum_eq (k : Fin 2) (h : S2x1x2.Slices ![0, 0, k.val] S2x1x1) (v : FVec Ideal S2x1x2 .f32) (i : S_.Idx) :
    hostSum k h v i = ∑ j : Fin 2, v (ix3 j 0 k) := by
  unfold hostSum
  refine (Ideal.hostReduceAdd_total _ (by decide) _ _ _).trans ?_
  rw [show ∀ j, constant (F := Ideal) S_ .f32 0x00000000#32 j = (0 : EReal) from fun _ => Ideal.ofBits_zero_f32, zero_add]
  refine (sum_idx1 _).trans (Fintype.sum_congr _ _ fun j => ?_)
  have e : Shape.reshapeEquiv shapeCasts_S2x1x1_S2 (ix1 j) = ix3 j 0 0 := Shape.reshapeEquiv_eq_of_rowMajor _ (by
    rw [Shape.rowMajor_val_three, Shape.rowMajor_val_one]
    show (j.val * 1 + 0) * 1 + 0 = j.val
    omega)
  show v _ = _
  refine congrArg v (funext fun a => Fin.ext ?_)
  show (![0, 0, k.val] : Fin 3 → ℕ) a + (Shape.reshapeEquiv shapeCasts_S2x1x1_S2 (ix1 j) a : ℕ) = _
  rw [e]
  fin_cases a
  · exact Nat.zero_add _
  · rfl
  · rfl

/-- The result: the total of the weighted errors over the number of valid targets. -/
theorem hostQuot_halfWords (i : S_.Idx) : hostQuot (halfWords m c) i
    = Ideal.div (∑ n ∈ range 2, ∑ j ∈ range 8, errSum m c (2 * j + n)) (∑ n ∈ range 2, ∑ j ∈ range 8, cntSum m c (2 * j + n)) := by
  unfold hostQuot
  show Ideal.div (hostSum 0 _ _ i) (hostSum 1 _ _ i) = _
  rw [hostSum_eq, hostSum_eq, Finset.sum_range, Finset.sum_range]
  rfl

/-! ## Every entry once -/

/-- The blocks of the two halves are all the batch entries. -/
theorem sum_blocks (f : EReal → EReal → EReal) (y p : Vec Ideal S64x512x512 .f32) :
    ∑ n ∈ range 2, ∑ j ∈ range 8, sumOver f y p (2 * j + n)
      = ∑ b ∈ range 64, ∑ r ∈ range 512, ∑ l ∈ range 512, f (at3 y b r l) (at3 p b r l) := by
  rw [sum_comm]
  exact (sum_range_mul (sumOver f y p) 2 8).symm.trans
    (sum_range_mul (fun b => ∑ r ∈ range 512, ∑ l ∈ range 512, f (at3 y b r l) (at3 p b r l)) 4 16).symm

/-- The kernel's result in terms of its arguments. -/
theorem result_eq (i : S_.Idx) : hostQuot (halfWords m c) i
    = Ideal.div (∑ b ∈ range 64, ∑ r ∈ range 512, ∑ l ∈ range 512,
          errOf (wOf (argW m c)) (eOf (argE m c)) (at3 (argY m c) b r l) (at3 (argP m c) b r l))
        (∑ b ∈ range 64, ∑ r ∈ range 512, ∑ l ∈ range 512, cntOf (eOf (argE m c)) (at3 (argY m c) b r l)) :=
  (hostQuot_halfWords m c i).trans (congrArg₂ Ideal.div
    (sum_blocks (errOf (wOf (argW m c)) (eOf (argE m c))) (argY m c) (argP m c))
    (sum_blocks (fun y _ => cntOf (eOf (argE m c)) y) (argY m c) (argY m c)))

/-! ## The run -/

/-- Every run of the kernel ends with the quotient in the result, the arguments unchanged. -/
theorem run_value : θ_run (defs (F := Ideal)) (onTc (τ := τ) (main (F := Ideal))) ⟨m, fun _ => 0, ρ⟩ fun r => ∀ c : Dev nD,
      r.2.mem ((c.tc : Thread nD τ).loc main_v9) = hostQuot (halfWords m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hv : θ_run (defs (F := Ideal)) (onTc (τ := τ) (main (F := Ideal))) ⟨m, fun _ => 0, ρ⟩ fun r => ∀ c : Dev nD,
      r.2.mem ((c.tc : Thread nD τ).loc main_v9) = hostQuot (halfWords m c) :=
    (θ_run defs _ _).mono (fun _ h c => ((h c).2 main_v9 (Pipeline.mem_restRefs_of main_v9 (by decide) (by decide))).trans (tail_v9 m c)) (run_main m ρ)
  exact (θ_run defs _ _).mono (fun _ h c => ⟨h.1 c, h.2 c⟩) (θ_run_and hv (unchanged m ρ))

end Cert.KernelIdeal.Gen

end
-- ==== Proof.Bins.lean ====
/- Which bin a target falls in, told by how many edges it reaches: with the edges in order, the bin is that number less
   one, and the target is valid when it reaches at least one edge and not all of them. -/
module

public import proofs.«01_k».proof.Proof.Grid

@[expose] public section

set_option maxRecDepth 16384

noncomputable section

namespace Cert.KernelIdeal.Gen

open Idealize.ShloMosaic Idealize.ShloMosaic.TcCoe Idealize.ShloMosaic.Tactic
open Finset

/-! ## The number of edges reached -/

/-- The edges are in order. -/
def Ordered (E : ℕ → EReal) : Prop := ∀ k, k < 7 → E k ≤ E (k + 1)

/-- The edges target `y` reaches. -/
def reached (E : ℕ → EReal) (y : EReal) : Finset (Fin 8) := univ.filter fun k => E k ≤ y

theorem card_reached_le (E : ℕ → EReal) (y : EReal) : (reached E y).card ≤ 8 :=
  (card_le_univ _).trans (by simp)

/-- Every edge before a reached one is reached. -/
theorem ordered_le {E : ℕ → EReal} (h : Ordered E) : ∀ (i j : ℕ), i ≤ j → j < 8 → E i ≤ E j := by
  intro i j hij
  induction j, hij using Nat.le_induction with
  | base => exact fun _ => le_rfl
  | succ j _ ih => exact fun hj => (ih (by omega)).trans (h j (by omega))

/-- Edge `k` is reached when more than `k` edges are. -/
theorem reached_iff {E : ℕ → EReal} (h : Ordered E) (y : EReal) (k : ℕ) (hk : k < 8) : E k ≤ y ↔ k < (reached E y).card := by
  constructor
  · intro hy
    have e : Finset.Iic (⟨k, hk⟩ : Fin 8) ⊆ reached E y := fun j hj =>
      mem_filter.mpr ⟨mem_univ _, (ordered_le h j k (Fin.le_def.mp (Finset.mem_Iic.mp hj)) hk).trans hy⟩
    have := card_le_card e
    rw [Fin.card_Iic] at this
    exact this
  · intro hc
    by_contra hy
    have e : reached E y ⊆ Finset.Iio (⟨k, hk⟩ : Fin 8) := fun j hj => by
      rw [Finset.mem_Iio, Fin.lt_def]
      by_contra hkj
      exact hy ((ordered_le h k j (not_lt.mp hkj) j.isLt).trans (mem_filter.mp hj).2)
    have := card_le_card e
    rw [Fin.card_Iio] at this
    exact absurd hc (not_lt.mpr this)

/-- The weight of a target in bin `n - 1`, zero outside the bins. -/
def binWeight (W : ℕ → EReal) (n : ℕ) : EReal := if 1 ≤ n ∧ n ≤ 7 then W (n - 1) else 0

/-- A target's weight by the number of edges it reaches. -/
theorem wsel_reached {E : ℕ → EReal} (h : Ordered E) (W : ℕ → EReal) (y : EReal) :
    (if y < E 7 then wsel W E y else 0) = binWeight W (reached E y).card := by
  have hn := card_reached_le E y
  unfold wsel binWeight
  simp only [← not_le, reached_iff h y _ (by decide : 0 < 8), reached_iff h y _ (by decide : 1 < 8), reached_iff h y _ (by decide : 2 < 8),
    reached_iff h y _ (by decide : 3 < 8), reached_iff h y _ (by decide : 4 < 8), reached_iff h y _ (by decide : 5 < 8),
    reached_iff h y _ (by decide : 6 < 8), reached_iff h y _ (by decide : 7 < 8)]
  generalize (reached E y).card = n at hn
  interval_cases n <;> simp

/-- Whether it counts, likewise. -/
theorem cntOf_reached {E : ℕ → EReal} (h : Ordered E) (y : EReal) :
    cntOf E y = if 1 ≤ (reached E y).card ∧ (reached E y).card ≤ 7 then 1 else 0 := by
  unfold cntOf
  refine if_congr (and_congr ((reached_iff h y 0 (by decide)).trans Nat.succ_le_iff.symm) ?_) rfl rfl
  rw [← not_le, reached_iff h y 7 (by decide), not_lt]

/-! ## The words the bin is computed in -/

/-- The bin as a word: the number of edges reached, less one. -/
def binWord (n : ℕ) : BitVec 32 := IntOp.subi (BitVec.ofNat 32 n) 1#32

/-- Whether it is one of the seven. -/
def binValid (n : ℕ) : BitVec 1 := IntOp.andi (IntOp.cmpi .sge (binWord n) 0#32) (IntOp.cmpi .slt (binWord n) 7#32)

/-- The place it is looked up at: brought into range, and counted from the end where negative. -/
def binPlace (n : ℕ) : BitVec 32 :=
  let b := IntOp.minsi 6#32 (IntOp.maxsi 0#32 (binWord n))
  Scalar.select (IntOp.cmpi .slt b 0#32) (IntOp.addi b 7#32) b

theorem binValid_iff (n : ℕ) (hn : n ≤ 8) : binValid n = 1#1 ↔ 1 ≤ n ∧ n ≤ 7 := by
  interval_cases n <;> decide

theorem binPlace_eq (n : ℕ) (h1 : 1 ≤ n) (hn : n ≤ 7) : min (binPlace n).toInt.toNat 6 = n - 1 := by
  interval_cases n <;> decide

end Cert.KernelIdeal.Gen

end
-- ==== Proof.Reference.lean ====
/- The reference's two totals, over the extended reals: the sums of the weighted errors and of the valid targets over
   every entry of the arrays, in the terms the kernel's totals are stated in. -/
module

public import proofs.«01_k».proof.Proof.Bins
public import proofs.«01_k».proof.Proof.Gen.ReferenceIdeal.Read
public import Idealize.ShloMosaic.Lib.IndicatorCount

@[expose] public section

set_option maxRecDepth 16384

noncomputable section

namespace Cert.ReferenceIdeal.Read

open Cert.ReferenceIdeal Cert.ReferenceIdeal.Gen Idealize.ShloMosaic Idealize.ShloMosaic.TcCoe
open Cert.KernelIdeal.Gen (at3 wOf eOf errOf cntOf Ordered reached card_reached_le binWeight wsel_reached cntOf_reached binWord binValid binPlace binValid_iff binPlace_eq)
open Finset

variable (y p : FVec Ideal S64x512x512 .f32) (w : FVec Ideal S7 .f32) (e : FVec Ideal S8 .f32)

/-! ## The bins -/

/-- The last axis may be summed away. -/
theorem reduces8 : S64x512x512x8.Reduces [3] S64x512x512 := by decide

/-- Whether the target at `i` reaches edge `k`. -/
theorem v6_lift (i : S64x512x512.Idx) (k : Fin 8) :
    val_main_v6 (F := Ideal) y e (reduces8.lift i k) = Ideal.cmp .ole (eOf e k) (y i) := by
  rw [val_main_v6_apply, val_main_v4_apply, val_main_v3_apply, val_main_v5_apply, val_main_v2_apply]
  have e1 : idx_main_v3 (idx_main_v4 (reduces8.lift i k)) = ix1 ⟨k.val % 8, Nat.mod_lt _ (by decide)⟩ := funext fun a => by
    refine Fin.ext ?_
    fin_cases a
    exact (Nat.mod_eq_of_lt k.isLt).symm
  have e2 : idx_main_v2 (idx_main_v5 (reduces8.lift i k)) = i := funext fun a => by
    refine Fin.ext ?_
    fin_cases a <;> rfl
  rw [e1, e2]
  rfl

/-- The number of edges a target reaches, as a word. -/
theorem v8_eq (i : S64x512x512.Idx) : val_main_v8 (F := Ideal) y e i = BitVec.ofNat 32 (reached (eOf e) (y i)).card := by
  unfold val_main_v8
  rw [Host.reduce_eq_fold_single IntOp.addi _ _ _ reduces8, val_main_c_apply]
  refine (IndicatorCount.fold_addi_setWidth_eq_card (fun k : Fin 8 => val_main_v6 (F := Ideal) y e (reduces8.lift i k)) univ).trans ?_
  refine congrArg (fun S : Finset (Fin 8) => BitVec.ofNat 32 S.card) (filter_congr fun k _ => ?_)
  rw [v6_lift]
  exact Ideal.cmp_ole_eq_one _ _

theorem v10_eq (i : S64x512x512.Idx) : val_main_v10 (F := Ideal) y e i = binWord (reached (eOf e) (y i)).card := by
  rw [val_main_v10_apply, v8_eq, val_main_v9_apply]
  rfl

theorem v15_eq (i : S64x512x512.Idx) : val_main_v15 (F := Ideal) y e i = binValid (reached (eOf e) (y i)).card := by
  rw [val_main_v15_apply, val_main_v12_apply, val_main_v14_apply, v10_eq, val_main_v11_apply, val_main_v13_apply]
  rfl

theorem v21_eq (i : S64x512x512.Idx) : val_main_v21 (F := Ideal) y e i = binPlace (reached (eOf e) (y i)).card := by
  rw [val_main_v21_apply, val_main_v18_apply, val_main_v20_apply, val_main_v16_apply, val_main_call0_v2_apply, v10_eq,
    val_main_v17_apply, val_main_v19_apply, val_main_call0_v1_apply, val_main_call0_v4_apply]
  rfl

/-! ## The weights looked up -/

/-- The place of the start index for entry `i`. -/
abbrev startAt (i : S64x512x512.Idx) : S64x512x512x1.Idx := fun a => match a with
  | ⟨0, _⟩ => ⟨(i 0).val, (i 0).isLt⟩ | ⟨1, _⟩ => ⟨(i 1).val, (i 1).isLt⟩ | ⟨2, _⟩ => ⟨(i 2).val, (i 2).isLt⟩ | ⟨3, _⟩ => ⟨0, Nat.one_pos⟩

/-- The start index for entry `i` is its place. -/
theorem v22_eq (i : S64x512x512.Idx) : val_main_v22 (F := Ideal) y e (startAt i) = binPlace (reached (eOf e) (y i)).card := by
  have es : idx_main_v22 (startAt i) = i := funext fun a => by
    refine Fin.ext ?_
    fin_cases a <;> rfl
  exact (val_main_v22_apply (F := Ideal) y e (startAt i)).trans ((congrArg (val_main_v21 (F := Ideal) y e) es).trans (v21_eq y e i))

/-- A weight looked up at a start index, brought into the table. -/
theorem lookup_apply (n : IVec S64x512x512x1 32) (i : S64x512x512.Idx) :
    Host.gather gather_S7_S64x512x512x1_S64x512x512_n_0_n_n_0_3_1 w n i
      = w (ix1 ⟨min (n (startAt i)).toInt.toNat 6, by omega⟩) := by
  have hs : gather_S7_S64x512x512x1_S64x512x512_n_0_n_n_0_3_1.siIdx i ⟨0, by decide⟩ = startAt i := funext fun b => by
    refine Fin.ext ?_
    fin_cases b <;> rfl
  have h0 : (0 : Fin 1) ∈ gather_S7_S64x512x512x1_S64x512x512_n_0_n_n_0_3_1.startIndexMap := List.mem_singleton.mpr rfl
  refine congrArg w (funext fun a => Fin.ext ?_)
  obtain rfl : a = 0 := Subsingleton.elim _ _
  show GatherDims.start _ i n 0 + GatherDims.batchCoord _ i 0 + GatherDims.offCoord _ i 0 = min (n (startAt i)).toInt.toNat 6
  rw [← hs]
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos h0]
  rfl

/-- The weight the reference gives entry `i`. -/
theorem v24_eq (i : S64x512x512.Idx) : val_main_v24 (F := Ideal) y w e i = binWeight (wOf w) (reached (eOf e) (y i)).card := by
  have hn := card_reached_le (eOf e) (y i)
  rw [val_main_v24_apply, v15_eq]
  unfold Scalar.select binWeight
  by_cases h : 1 ≤ (reached (eOf e) (y i)).card ∧ (reached (eOf e) (y i)).card ≤ 7
  · rw [if_pos h, if_pos (show _ = (1 : BitVec 1) from (binValid_iff _ hn).mpr h)]
    refine (lookup_apply w _ i).trans (congrArg w (congrArg ix1 (Fin.ext ?_)))
    show min (val_main_v22 (F := Ideal) y e (startAt i)).toInt.toNat 6 = (_ - 1) % 7
    rw [v22_eq, binPlace_eq _ h.1 h.2, Nat.mod_eq_of_lt (by omega)]
  · rw [if_neg h, if_neg fun hv : _ = (1 : BitVec 1) => h ((binValid_iff _ hn).mp hv), val_main_call1_v0_apply]
    exact Ideal.ofBits_zero_f32

/-- Its weighted error, -/
theorem v25_eq (h : Ordered (eOf e)) (i : S64x512x512.Idx) :
    val_main_v25 (F := Ideal) y p w e i = errOf (wOf w) (eOf e) (y i) (p i) := by
  rw [val_main_v25_apply, v24_eq, val_main_v1_apply, val_main_v0_apply]
  unfold errOf
  rw [wsel_reached h]
  rfl

/-! ## The totals -/

/-- A sum over the entries is the sum over the coordinates. -/
theorem sum_entries (f : EReal → EReal → EReal) :
    ∑ i : S64x512x512.Idx, f (y i) (p i) = ∑ b ∈ range 64, ∑ r ∈ range 512, ∑ l ∈ range 512, f (at3 y b r l) (at3 p b r l) := by
  rw [sum_idx3, Finset.sum_range]
  refine Fintype.sum_congr _ _ fun b => ?_
  rw [Finset.sum_range]
  refine Fintype.sum_congr _ _ fun r => ?_
  rw [Finset.sum_range]
  refine Fintype.sum_congr _ _ fun l => ?_
  have ei : (ix3 ⟨b.val % 64, Nat.mod_lt _ (by decide)⟩ ⟨r.val % 512, Nat.mod_lt _ (by decide)⟩ ⟨l.val % 512, Nat.mod_lt _ (by decide)⟩ : S64x512x512.Idx) = ix3 b r l := by
    congr 1 <;> exact Fin.ext (Nat.mod_eq_of_lt (Fin.isLt _))
  unfold at3
  rw [ei]

/-- The total of the weighted errors. -/
theorem v26_eq (h : Ordered (eOf e)) (i : S_.Idx) : val_main_v26 (F := Ideal) y p w e i
    = ∑ b ∈ range 64, ∑ r ∈ range 512, ∑ l ∈ range 512, errOf (wOf w) (eOf e) (at3 y b r l) (at3 p b r l) := by
  rw [val_main_v26_apply, val_main_cst_7_apply, ← sum_entries y p (errOf (wOf w) (eOf e))]
  refine (congrArg₂ (· + ·) Ideal.ofBits_zero_f32 (Fintype.sum_congr _ _ fun j => v25_eq y p w e h j)).trans (zero_add _)

/-- How many targets are valid. -/
theorem v28_eq (i : S_.Idx) : val_main_v28 (F := Ideal) y e i
    = BitVec.ofNat 32 (univ.filter fun j : S64x512x512.Idx => val_main_v15 (F := Ideal) y e j = 1#1).card := by
  unfold val_main_v28
  rw [Host.reduce_eq_fold, val_main_c_8_apply]
  refine (IndicatorCount.fold_addi_setWidth_eq_card (fun j => val_main_v15 (F := Ideal) y e j) _).trans ?_
  refine congrArg (fun S : Finset S64x512x512.Idx => BitVec.ofNat 32 (S.filter fun j => val_main_v15 (F := Ideal) y e j = 1#1).card) ?_
  exact filter_true_of_mem fun j _ => funext fun a => a.elim0

/-- The number of entries. -/
theorem card_entries : Fintype.card S64x512x512.Idx = 16777216 :=
  (Fintype.card_congr S64x512x512.rowMajor).trans ((Fintype.card_fin _).trans (by decide +kernel))

/-- A number below 2 ^ 31 is what its word reads as. -/
theorem word_value (n : ℕ) (h : n ≤ 16777216) : FloatOps.sitofp (F := Ideal) .f32 (BitVec.ofNat 32 n) = n • (1 : EReal) := by
  have ht : (BitVec.ofNat 32 n).toNat = n := Nat.mod_eq_of_lt (by omega)
  show (((BitVec.ofNat 32 n).toInt : ℝ) : EReal) = n • (1 : EReal)
  rw [BitVec.toInt_eq_toNat_of_lt (by omega), ht]
  simp

/-- How many are valid, as an extended real. -/
theorem v29_eq (h : Ordered (eOf e)) (i : S_.Idx) : val_main_v29 (F := Ideal) y e i
    = ∑ b ∈ range 64, ∑ r ∈ range 512, ∑ l ∈ range 512, cntOf (eOf e) (at3 y b r l) := by
  refine Eq.trans ?_ (sum_entries y y fun a _ => cntOf (eOf e) a)
  rw [val_main_v29_apply, v28_eq, word_value _ ((card_le_univ _).trans card_entries.le)]
  have hs : ∀ j : S64x512x512.Idx, cntOf (eOf e) (y j) = if val_main_v15 (F := Ideal) y e j = 1#1 then 1 else 0 := fun j => by
    rw [cntOf_reached h, v15_eq]
    exact if_congr (binValid_iff _ (card_reached_le _ _)).symm rfl rfl
  rw [Fintype.sum_congr _ _ hs, ← sum_filter, sum_const]

end Cert.ReferenceIdeal.Read

end
-- ==== Proof.Sorted.lean ====
/- The precondition read: the edges are in order. -/
module

public import proofs.«01_k».proof.Pre_sorted_edges
public import proofs.«01_k».proof.Proof.Bins
public import Idealize.ShloMosaic.Lib.ReduceAll

@[expose] public section

noncomputable section

namespace Cert.Pre_sorted_edges

open Idealize.ShloMosaic
open Cert.KernelIdeal.Gen (eOf Ordered)

/-- The side conditions the precondition states. -/
theorem facts : Facts := ⟨by decide, by decide, by decide, by decide⟩

/-- The precondition compares every edge with the next. -/
theorem ordered [Facts] (y p : FVec Ideal S64x512x512 .f32) (w : FVec Ideal S7 .f32) (e : FVec Ideal S8 .f32)
    (h : fn (F := Ideal) y p w e = fun _ => 1#1) : Ordered (eOf e) := by
  intro k hk
  have hi := Host.reduce_andi_eq_one _ _ _ _ (fun a => a.elim0) (congrFun h fun a => a.elim0) (ix1 ⟨k, hk⟩) (funext fun a => a.elim0)
  have hc := (Ideal.cmp_ole_eq_one _ _).mp hi
  have at_ (o : ℕ) (ho : o < 2) (hs : S8.Slices ![o] S7) : extractStridedSlice S7 ![o] e hs (ix1 ⟨k, hk⟩) = eOf e (k + o) := by
    refine congrArg e (funext fun a => Fin.ext ?_)
    fin_cases a
    show o + k = (k + o) % 8
    omega
  have h0 := at_ 0 (by decide) Facts.slices_S8_S7_0
  have h1 := at_ 1 (by decide) Facts.slices_S8_S7_1
  exact h0.symm.le.trans (hc.trans h1.le)

end Cert.Pre_sorted_edges

end
-- ==== Proof.lean ====
/- The certificate: the kernel's mean of the weighted errors is the reference's whenever the bin edges are in order. The
   kernel's result is read in Proof/Tail.lean, the reference's in Proof/Reference.lean, both as the same quotient of two
   sums over every entry. -/
module

public import proofs.«01_k».proof.Defs
public import proofs.«01_k».proof.Proof.Gen.Kernel
public import proofs.«01_k».proof.Proof.Gen.Kernel.Frame
public import proofs.«01_k».proof.Proof.Gen.ReferenceIdeal.Run
public import proofs.«01_k».proof.Proof.Tail
public import proofs.«01_k».proof.Proof.Reference
public import proofs.«01_k».proof.Proof.Sorted
public import Idealize.ShloMosaic.Adequacy
public import Idealize.ShloMosaic.Init
public import Idealize.ShloMosaic.Lib.Quiescent

@[expose] public section

noncomputable section

namespace Cert.Proof

open Idealize.ShloMosaic Idealize.SL.Sem

/-- The reference's run: it is a host program and declares no semaphore. -/
theorem frame_reference (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => (h c).2, sem_eq_zero_of_no_sems (by decide) r.2⟩)
    (ReferenceIdeal.Value.run (F := Ideal) m ρ)

/-- The two results are equal when the edges are in order and the arguments agree. -/
theorem results_equal (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : KernelIdeal.Gen.Ordered (KernelIdeal.Gen.eOf (KernelIdeal.Gen.argE m c)))
    (h0 : m' ((c.tc : Thread ReferenceIdeal.nD ReferenceIdeal.τ).loc ReferenceIdeal.main_arg0) = KernelIdeal.Gen.argY m c)
    (h1 : m' ((c.tc : Thread ReferenceIdeal.nD ReferenceIdeal.τ).loc ReferenceIdeal.main_arg1) = KernelIdeal.Gen.argP m c)
    (h2 : m' ((c.tc : Thread ReferenceIdeal.nD ReferenceIdeal.τ).loc ReferenceIdeal.main_arg2) = KernelIdeal.Gen.argW m c)
    (h3 : m' ((c.tc : Thread ReferenceIdeal.nD ReferenceIdeal.τ).loc ReferenceIdeal.main_arg3) = KernelIdeal.Gen.argE m c) :
    ReferenceIdeal.Value.res_main_v30 m' c = KernelIdeal.Gen.hostQuot (KernelIdeal.Gen.halfWords m c) := by
  rw [ReferenceIdeal.Read.val_main_v30_eq, h0, h1, h2, h3]
  funext i
  refine Eq.trans ?_ (KernelIdeal.Gen.result_eq m c i).symm
  rw [ReferenceIdeal.Read.val_main_v30_apply]
  exact congrArg₂ Ideal.div (ReferenceIdeal.Read.v26_eq _ _ _ _ h i) (ReferenceIdeal.Read.v29_eq _ _ h i)

theorem claim : Cert.Claim :=
  ⟨Kernel.Gen.facts, KernelIdeal.Gen.facts, ReferenceIdeal.Gen.facts, Pre_sorted_edges.facts,
    fun m ρ _ => Kernel.Gen.frame m ρ, fun m ρ _ => KernelIdeal.Gen.frame m ρ, fun m ρ _ => KernelIdeal.Gen.frame m ρ,
    fun m ρ _ => frame_reference m ρ, fun m ρ _ => frame_reference m ρ, trivial,
    fun m ρ m' ρ' hpre hagree => ⟨fun c => KernelIdeal.Gen.hostQuot (KernelIdeal.Gen.halfWords m c), KernelIdeal.Gen.run_value m ρ,
      (θ_run ReferenceIdeal.defs _ _).mono (fun _ h c => ⟨(h c).1.trans (results_equal m m' c
          (letI := Pre_sorted_edges.facts; Pre_sorted_edges.ordered _ _ _ _ (hpre c))
          (hagree c).1 (hagree c).2.1 (hagree c).2.2.1 (hagree c).2.2.2), (h c).2⟩)
        (ReferenceIdeal.Value.run (F := Ideal) m' ρ')⟩⟩

end Cert.Proof

end
